-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x128 : Shape := ⟨2, ![4096, 128]⟩
abbrev S100000x128 : Shape := ⟨2, ![100000, 128]⟩
abbrev S100000x4096 : Shape := ⟨2, ![100000, 4096]⟩
abbrev S4096x100000 : Shape := ⟨2, ![4096, 100000]⟩
abbrev S1280x128 : Shape := ⟨2, ![1280, 128]⟩
abbrev S1280x4096 : Shape := ⟨2, ![1280, 4096]⟩

abbrev nBuf : Space → Nat
  | .hbm => 4
  | .vmem => 5
  | .smem => 0
  | _ => 0

abbrev bufTy : (tb : Table) → Fin (tcTables nBuf tb) → BufTy
  | .hbm, ⟨0, _⟩ => ⟨S4096x128, .f32⟩
  | .hbm, ⟨1, _⟩ => ⟨S100000x128, .f32⟩
  | .hbm, ⟨2, _⟩ => ⟨S100000x4096, .f32⟩
  | .hbm, ⟨3, _⟩ => ⟨S4096x100000, .f32⟩
  | .local _ .vmem, ⟨0, _⟩ => ⟨S1280x128, .f32⟩
  | .local _ .vmem, ⟨1, _⟩ => ⟨S1280x128, .f32⟩
  | .local _ .vmem, ⟨2, _⟩ => ⟨S4096x128, .f32⟩
  | .local _ .vmem, ⟨3, _⟩ => ⟨S1280x4096, .f32⟩
  | .local _ .vmem, ⟨4, _⟩ => ⟨S1280x4096, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![79], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1280x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1280x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S4096x128 : Shape := ⟨2, ![4096, 128]⟩
abbrev S100000x128 : Shape := ⟨2, ![100000, 128]⟩
abbrev S128x100000 : Shape := ⟨2, ![128, 100000]⟩
abbrev S4096x100000 : Shape := ⟨2, ![4096, 100000]⟩

abbrev nBuf : Space → Nat
  | .hbm => 4
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S100000x128, .f32⟩
  | .hbm, ⟨2, _⟩ => ⟨S128x100000, .f32⟩
  | .hbm, ⟨3, _⟩ => ⟨S4096x100000, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.KernelFrame.lean ====
/-
  The frame of the kernel at the bit-exact instance: the pipelined product runs to the end, its two arguments are
  unchanged and every semaphore counter is zero.

  The grid has 79 points. Point `t` stages rows `1280·t, …` of the item table, whose last block overhangs the table
  (100000 = 78·1280 + 160), so on that point the last 1120 rows of the staging buffer hold words that nothing names.
  Nothing is said here of what the kernel writes: the output window is forgotten.
-/
module

public import proofs.«01_k».proof.Proof.Gen.Kernel.Frame
public import proofs.«01_k».proof.Proof.Gen.Kernel.Skeleton
public import proofs.«01_k».proof.Defs

@[expose] public section

noncomputable section

namespace Cert.KernelFrame

open Cert.Kernel Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output window, of which the frame says nothing. -/
abbrev forgets (w : Fin 3) : Bool := decide (w = 2)

/-- The proof data: the arrays as launched; after the body the table's staging buffer still holds its block (a zero
    word in the rows past the table's end, which no claim reads), the batch's buffer the batch. -/
def dats (_ : Fin 1) (c : Dev nD) : Dat τ (Elt F) Unit ℕ (UR sig nD τ) ℕ cfg0 c where
  A w := V m c (Pipeline.arrRef spec0 w)
  after w t := match w with
    | ⟨0, _⟩ => win0_0.fill (grid0.coords t) (fun _ => Scalar.ofBits .f32 0#32) (iblk m c 0 t)
    | ⟨1, _⟩ => iblk m c 1 t
    | ⟨2, _⟩ => fun _ => Scalar.ofBits .f32 0#32
  Φ _ := Pipeline.ΦA spec0 c
  q _ := fullShare
  owed _ := 0

/-- At every point the body finds the table's rows just fetched, whatever fills the buffer past the table's end. -/
theorem before_table (c : Dev nD) (t : Fin cfg0.N) (d) :
    (dats m 0 c).before (0 : Fin 3) t d = win0_0.fill (grid0.coords t) d (iblk m c 0 t) := by
  unfold Dat.before; rw [if_pos (fetch0_0 t)]; rfl

/-- At every point the body finds the whole batch, fetched once at the first point and left in place. -/
theorem before_batch (c : Dev nD) (t : Fin cfg0.N) (d) : (dats m 0 c).before (1 : Fin 3) t d = iblk m c 1 t :=
  before0_1_of m (dats m 0 c) rfl (fun _ => rfl) t d

/-- The body at whichever of its staging buffers each window is on: two whole loads and one whole store of the
    product; the inputs are left as found. -/
theorem body_run (c : Dev nD) (E : Set ℕ) (i : grid0.Coords) (s0 : Fin 2) (s1 : Fin 1) (s2 : Fin 2)
    (X0 : S1280x128.Idx → Elt F .f32) (X1 : S4096x128.Idx → Elt F .f32) (X2 : S1280x4096.Idx → Elt F .f32)
    (K : PUnit → sProp 𝕄) :
    iprop((owns (c : Thread nD τ) (stage0_0 s0) fullShare X0 ∗ owns (c : Thread nD τ) (stage0_1 s1) fullShare X1
            ∗ owns (c : Thread nD τ) (stage0_2 s2) fullShare X2)
          ∗ (iprop(owns (c : Thread nD τ) (stage0_0 s0) fullShare X0 ∗ owns (c : Thread nD τ) (stage0_1 s1) fullShare X1
                  ∗ owns (c : Thread nD τ) (stage0_2 s2) fullShare (k0_pay1 X0 X1)) -∗ K ⟨⟩))
      ⊢ wp frame (wpE (defs₀ (F := F)) Variants.none c none) E
          (cc0__matmul_kernel i (stage0_0 s0) (hstage0_0 s0) (stage0_1 s1) (hstage0_1 s1) (stage0_2 s2) (hstage0_2 s2)) K := by
  have hz : (![0, 0] : Fin 2 → Nat) = fun _ => 0 := funext fun a => by fin_cases a <;> rfl
  fin_cases s0 <;> fin_cases s1 <;> fin_cases s2
  all_goals
    simp only [owns_whole_eq, cc0__matmul_kernel_eq_skeleton]; unfold cc0__matmul_kernel_skel
    simp only [Prog.lift, Prog.bind_op, Prog.bind_ret]
    iintro ⟨⟨⟨%f0, %hf0, H0⟩, ⟨%f1, %hf1, H1⟩, ⟨%f2, %hf2, H2⟩⟩, Hk⟩
    sl_steps
    iapply Hk
    erw [Memref.readAt_unit_zero (Elt F) _ hz, Memref.readAt_unit_zero (Elt F) _ hz, Memref.write_access_unit_zero_univ (Elt F) _ hz]
    isplitl [H0]
    · iexists f0; isplitr; · ipureintro; exact hf0
      iexact H0
    isplitl [H1]
    · iexists f1; isplitr; · ipureintro; exact hf1
      iexact H1
    · iexists k0_pay1 f0 f1; isplitr; · ipureintro; rw [hf0, hf1]
      iexact H2

/-- The library's body obligation, the output window forgotten. -/
theorem body_obligation (c : Dev nD) :
    BodyObligationLoose (dats m 0 c) (defs₀ (F := F)) Variants.none () Set.univ forgets := fun t => by
  rw [bigSep_W0, bigSep_W0]
  simp only [show forgets 0 = false from rfl, show forgets 1 = false from rfl, show forgets 2 = true from rfl]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩⟩
  rw [before_table m c t d0, before_batch m c t d1]
  iapply (body_run (F := F) c Set.univ (grid0.coords t) (cfg0.slots t 0) (cfg0.slots t 1) (cfg0.slots t 2)
    (win0_0.fill (grid0.coords t) d0 (iblk m c 0 t)) (iblk m c 1 t) d2 _)
  isplitl [H0 H1 H2]
  · isplitl [H0]
    · iexact H0
    isplitl [H1]
    · iexact H1
    · iexact H2
  iintro ⟨H0, H1, H2⟩
  isplitl [HΦ]; · iexact HΦ
  isplitl [Ho]; · iexact Ho
  have hx : win0_0.cut (grid0.coords t) (win0_0.fill (grid0.coords t) (fun _ => Scalar.ofBits (F := F) .f32 0#32) (iblk m c 0 t))
      = iblk m c 0 t := win0_0.cut_fill _ _ _
  isplitl [H0]
  · iexists d0
    change _ ⊢ owns (c : Thread nD τ) (stage0_0 (cfg0.slots t 0)) fullShare (win0_0.fill (grid0.coords t) d0
      (win0_0.cut (grid0.coords t) (win0_0.fill (grid0.coords t) (fun _ => Scalar.ofBits (F := F) .f32 0#32) (iblk m c 0 t))))
    rw [hx]; try iexact H0
  isplitl [H1]
  · iexact H1
  · iexists _
    iexact H2

/-- The one host line after the product writes the transposed result alone. -/
theorem tail_writes : ∀ ops ∈ ([hostOps1] : List (List (HloOp τ sig (Elt F)))), ∀ op ∈ ops, ∀ b : Ref sig .tc,
    Proc.devRef .tc b ∈ op.writes → b ∈ ({main_v0} : Finset (Ref sig .tc)) := by
  intro ops hops op hop b hb
  simp only [List.mem_cons, List.mem_nil_iff, or_false] at hops
  rcases hops with rfl
  simp only [hostOps1, List.mem_cons, List.mem_nil_iff, or_false] at hop
  rcases hop with rfl
  simp only [StableHlo.unary_writes, Finset.mem_singleton] at hb
  exact Finset.mem_singleton.mpr (Proc.devRef_injective _ hb)

/-- **The frame, for any float values**: every execution ends, the two arguments hold what they held and every
    semaphore counter is zero. -/
theorem run_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  Pipeline.θ_run_frame_around_T_forget cfgs (dats m) 0 launch0 defs₀ Variants.none forgets {main_v0} m ρ main
    (hbody := fun c => body_obligation m c) (hshare := fun c => (dats m 0 c).share_full fun _ => rfl) (howed := fun _ _ => rfl)
    (V₀ := V0 m) (opss := [hostOps1]) (hsub := sfx_sub) (hfresh := sfx_fresh) (hkeep := sfx_keeps) (hT := tail_writes)
    (hmain := hmain m Variants.none) (hA := fun _ _ => rfl) (hΦ := fun _ _ => rfl) (Q' := _)
    (hQ' := fun r h => ⟨fun c => ⟨Pipeline.RDat.FramePostR.arr_in h.1 c 1 rfl, Pipeline.RDat.FramePostR.arr_in h.1 c 0 rfl⟩, h.2⟩)

/-- The frame claim of the printed kernel. -/
theorem frame : Cert.quiescent_Kernel := fun m ρ _ => run_main (F := Bits) m ρ

end Cert.KernelFrame

end
-- ==== Proof.Product.lean ====
/-
  The kernel's product over the exact numbers, read at an index: the scores of every item of the table against every
  row of the batch, and what one grid point's block of them holds.
-/
module

public import proofs.«01_k».proof.Proof.Gen.KernelIdeal.Frame
public import proofs.«01_k».proof.Proof.Gen.KernelIdeal.Skeleton
public import Idealize.ShloMosaic.Lib.MatmulPlain
public import Idealize.ShloMosaic.Lib.Pipeline.Value

@[expose] public section

noncomputable section

namespace Cert.KernelValue

open Cert.KernelIdeal Cert.KernelIdeal.Gen

open Idealize.ShloMosaic Idealize.ShloMosaic.TcCoe Idealize.ShloMosaic.ValueIdx
open scoped BigOperators

variable (m : (ℓ : Loc nD τ sig) → Buf (Elt Ideal) ℓ)

/-- The scores, one row an item: entry (item, row) is the sum over the 128 features of the item's feature times the
    batch row's feature. -/
def itemScores (x : FVec Ideal S4096x128 .f32) (table : FVec Ideal S100000x128 .f32) : FVec Ideal S100000x4096 .f32 :=
  fun i => ∑ k : Fin 128, table (ix2 (i 0) k) * x (ix2 (i 1) k)

/-- The scores of what the launch's arguments hold on core `c`. -/
abbrev scores (c : Dev nD) : FVec Ideal S100000x4096 .f32 :=
  itemScores (m ((c.tc : Thread nD τ).loc main_arg0)) (m ((c.tc : Thread nD τ).loc main_arg1))

/-- The body's product at (r, b) is the sum over the features: row `r` of the staged items meets row `b` of the batch,
    and no other row of either enters. -/
theorem product_apply (items : FVec Ideal S1280x128 .f32) (x : FVec Ideal S4096x128 .f32) (r : Fin 1280) (b : Fin 4096) :
    k0_pay1 (F := Ideal) items x (ix2 r b) = ∑ k : Fin 128, items (ix2 r k) * x (ix2 b k) := by
  have h := Ideal.matmul_transposedRhs_apply none items x (constant S1280x4096 .f32 0x00000000#32) r b
  have hz : (constant S1280x4096 .f32 0x00000000#32 : FVec Ideal S1280x4096 .f32) (ix2 r b) = 0 := Ideal.ofBits_zero_f32
  rw [hz, zero_add] at h
  exact h

/-- Item block and score block of a point cut the same rows. -/
theorem rows_eq (t : Fin grid0.N) : win0_2.xsize (grid0.coords t) 0 = win0_0.xsize (grid0.coords t) 0 := rfl

/-- No item block is cut along the features. -/
theorem features_eq (t : Fin grid0.N) : win0_0.xsize (grid0.coords t) 1 = 128 := rfl

/-- The staged items at a row inside the table are the table's row, whatever lies in the buffer past the table's end. -/
theorem staged_item (c : Dev nD) (t : Fin grid0.N) (d : S1280x128.Idx → Elt Ideal .f32) (r : Fin 1280)
    (hr : (r : Nat) < win0_0.xsize (grid0.coords t) 0) (i : Fin 100000) (hi : (i : Nat) = win0_0.index t 0 * 1280 + r) (k : Fin 128) :
    win0_0.fill (grid0.coords t) d (iblk m c 0 t) (ix2 r k) = m ((c.tc : Thread nD τ).loc main_arg1) (ix2 i k) := by
  let z : (win0_0.xblock (grid0.coords t)).Idx := fun a => match a with
    | ⟨0, _⟩ => ⟨r, hr⟩
    | ⟨1, _⟩ => ⟨k, k.isLt.trans_eq (features_eq t).symm⟩
  have hx : win0_0.xinj (grid0.coords t) z = ix2 r k := by
    funext a; apply Fin.ext
    match a with
    | ⟨0, _⟩ => rfl
    | ⟨1, _⟩ => rfl
  rw [← hx, Pipeline.Window.fill_xinj]
  show m ((c.tc : Thread nD τ).loc main_arg1) ((win0_0.rect t).emb z) = _
  congr 1
  funext a; apply Fin.ext
  match a with
  | ⟨0, _⟩ => exact (win0_0.rect_emb_val t z 0).trans hi.symm
  | ⟨1, _⟩ => exact win0_0.rect_emb_val_of_index_zero t 1 rfl z

/-- The batch's block is the batch. -/
theorem staged_batch (c : Dev nD) (t : Fin grid0.N) (b : Fin 4096) (k : Fin 128) :
    iblk m c 1 t (ix2 b k) = m ((c.tc : Thread nD τ).loc main_arg0) (ix2 b k) := by
  show m ((c.tc : Thread nD τ).loc main_arg0) ((win0_1.rect t).emb (ix2 b k)) = _
  congr 1
  funext a; apply Fin.ext
  match a with
  | ⟨0, _⟩ => exact win0_1.rect_emb_val_of_index_zero t 0 rfl (ix2 b k)
  | ⟨1, _⟩ => exact win0_1.rect_emb_val_of_index_zero t 1 rfl (ix2 b k)

/-- **A point's block of scores.** On the rows that lie in the result, the body's product of the staged items and the
    batch is the scores of those items, whatever the item buffer holds past the table's end. -/
theorem product_block (c : Dev nD) (t : Fin grid0.N) (d : S1280x128.Idx → Elt Ideal .f32)
    (y : (win0_2.xblock (grid0.coords t)).Idx) :
    k0_pay1 (F := Ideal) (win0_0.fill (grid0.coords t) d (iblk m c 0 t)) (iblk m c 1 t) (win0_2.xinj (grid0.coords t) y)
      = scores m c ((win0_2.rect t).emb y) := by
  have e0 : (((win0_2.rect t).emb y 0 : Fin 100000) : Nat) = win0_2.index t 0 * 1280 + y 0 := win0_2.rect_emb_val t y 0
  have e1 : (((win0_2.rect t).emb y 1 : Fin 4096) : Nat) = (win0_2.xinj (grid0.coords t) y 1 : Fin 4096) :=
    win0_2.rect_emb_val_of_index_zero t 1 rfl y
  let r : Fin 1280 := win0_2.xinj (grid0.coords t) y 0
  let b : Fin 4096 := win0_2.xinj (grid0.coords t) y 1
  refine (congrArg _ (eq_ix2 (win0_2.xinj (grid0.coords t) y))).trans ((product_apply _ _ r b).trans ?_)
  unfold scores itemScores
  refine Finset.sum_congr rfl fun k _ => ?_
  rw [staged_item m c t d r ((y 0).isLt.trans_eq (rows_eq t)) ((win0_2.rect t).emb y 0) e0 k]
  refine congrArg _ ((staged_batch m c t b k).trans ?_)
  rw [show b = (win0_2.rect t).emb y 1 from (Fin.ext e1).symm]

end Cert.KernelValue

end
-- ==== Proof.IdealRun.lean ====
/-
  The kernel's run over the exact numbers: its result is the transposed scores, its arguments are unchanged and every
  semaphore counter is zero.

  The last grid point's block overhangs the table, so what the body leaves past the result's last row depends on words
  nothing names; the rows inside the result do not (`product_block`), and only they are written back.
-/
module

public import proofs.«01_k».proof.Proof.Product
public import proofs.«01_k».proof.Defs
public import Idealize.ShloMosaic.Lib.Pipeline.ValueKit.Geometry
public import Idealize.ShloMosaic.Lib.StableHlo.Run

@[expose] public section

noncomputable section

namespace Cert.KernelValue

open Cert.KernelIdeal Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligationLoose)

local notation "𝕄" => MT nD τ sig Unit (Elt Ideal) ℕ (UR sig nD τ) ℕ

variable (m : (ℓ : Loc nD τ sig) → Buf (Elt Ideal) ℓ) (ρ : Dev nD → PrngReg)

/-- The items staged at a point, the buffer's rows past the table's end at zero. -/
abbrev items (c : Dev nD) (t : Fin grid0.N) : S1280x128.Idx → Elt Ideal .f32 :=
  win0_0.fill (grid0.coords t) (fun _ => Scalar.ofBits (F := Ideal) .f32 0#32) (iblk m c 0 t)

/-- The proof data: the arrays as launched; the body leaves the items and the batch in place and their product in the
    score buffer. -/
def dats (_ : Fin 1) (c : Dev nD) : Dat τ (Elt Ideal) Unit ℕ (UR sig nD τ) ℕ cfg0 c where
  A w := V m c (Pipeline.arrRef spec0 w)
  after w t := match w with
    | ⟨0, _⟩ => items m c t
    | ⟨1, _⟩ => iblk m c 1 t
    | ⟨2, _⟩ => k0_pay1 (F := Ideal) (items m c t) (iblk m c 1 t)
  Φ _ := Pipeline.ΦA spec0 c
  q _ := fullShare
  owed _ := 0

/-- At every point the item buffer holds the rows just fetched, filled up by whatever was there. -/
theorem items_before (c : Dev nD) (t : Fin cfg0.N) (d) :
    (dats m 0 c).before (0 : Fin 3) t d = win0_0.fill (grid0.coords t) d (iblk m c 0 t) := by
  unfold Dat.before; rw [if_pos (fetch0_0 t)]; rfl

/-- At every point the batch buffer holds the batch. -/
theorem batch_before (c : Dev nD) (t : Fin cfg0.N) (d) : (dats m 0 c).before (1 : Fin 3) t d = iblk m c 1 t :=
  before0_1_of m (dats m 0 c) rfl (fun _ => rfl) t d

/-- The body on any staging buffers of the three windows: it stores the product of what it finds in the first two. -/
theorem body_stores (c : Dev nD) (i : grid0.Coords) (s0 : Fin 2) (s1 : Fin 1) (s2 : Fin 2)
    (X0 : S1280x128.Idx → Elt Ideal .f32) (X1 : S4096x128.Idx → Elt Ideal .f32) (X2 : S1280x4096.Idx → Elt Ideal .f32)
    (K : PUnit → sProp 𝕄) :
    iprop((owns (c : Thread nD τ) (stage0_0 s0) fullShare X0 ∗ owns (c : Thread nD τ) (stage0_1 s1) fullShare X1
            ∗ owns (c : Thread nD τ) (stage0_2 s2) fullShare X2)
          ∗ (iprop(owns (c : Thread nD τ) (stage0_0 s0) fullShare X0 ∗ owns (c : Thread nD τ) (stage0_1 s1) fullShare X1
                  ∗ owns (c : Thread nD τ) (stage0_2 s2) fullShare (k0_pay1 (F := Ideal) X0 X1)) -∗ K ⟨⟩))
      ⊢ wp frame (wpE (defs₀ (F := Ideal)) Variants.none c none) Set.univ
          (cc0__matmul_kernel i (stage0_0 s0) (hstage0_0 s0) (stage0_1 s1) (hstage0_1 s1) (stage0_2 s2) (hstage0_2 s2)) K := by
  have hz : (![0, 0] : Fin 2 → Nat) = fun _ => 0 := funext fun a => by fin_cases a <;> rfl
  fin_cases s0 <;> fin_cases s1 <;> fin_cases s2
  all_goals
    simp only [owns_whole_eq, cc0__matmul_kernel_eq_skeleton]; unfold cc0__matmul_kernel_skel
    simp only [Prog.lift, Prog.bind_op, Prog.bind_ret]
    iintro ⟨⟨⟨%f0, %hf0, H0⟩, ⟨%f1, %hf1, H1⟩, ⟨%f2, %hf2, H2⟩⟩, Hk⟩
    sl_steps
    iapply Hk
    erw [Memref.readAt_unit_zero (Elt Ideal) _ hz, Memref.readAt_unit_zero (Elt Ideal) _ hz,
      Memref.write_access_unit_zero_univ (Elt Ideal) _ hz]
    isplitl [H0]
    · iexists f0; isplitr; · ipureintro; exact hf0
      iexact H0
    isplitl [H1]
    · iexists f1; isplitr; · ipureintro; exact hf1
      iexact H1
    · iexists k0_pay1 (F := Ideal) f0 f1; isplitr; · ipureintro; rw [hf0, hf1]
      iexact H2

/-- The product's rows inside the result do not depend on what the item buffer held past the table's end. -/
theorem product_cut (c : Dev nD) (t : Fin grid0.N) (d : S1280x128.Idx → Elt Ideal .f32) :
    win0_2.cut (α := Elt Ideal .f32) (grid0.coords t) (k0_pay1 (F := Ideal) (items m c t) (iblk m c 1 t))
      = win0_2.cut (α := Elt Ideal .f32) (grid0.coords t)
          (k0_pay1 (F := Ideal) (win0_0.fill (grid0.coords t) d (iblk m c 0 t)) (iblk m c 1 t)) :=
  funext fun y => (product_block m c t _ y).trans (product_block m c t d y).symm

/-- The library's body obligation: two windows may overhang, so their buffers are stated up to the rows past the end. -/
theorem body_obligation (c : Dev nD) :
    BodyObligationLoose (dats m 0 c) (defs₀ (F := Ideal)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩⟩
  rw [items_before m c t d0, batch_before m c t d1]
  iapply (body_stores c (grid0.coords t) (cfg0.slots t 0) (cfg0.slots t 1) (cfg0.slots t 2)
    (win0_0.fill (grid0.coords t) d0 (iblk m c 0 t)) (iblk m c 1 t) ((dats m 0 c).before (2 : Fin 3) t d2) _)
  isplitl [H0 H1 H2]
  · isplitl [H0]
    · iexact H0
    isplitl [H1]
    · iexact H1
    · iexact H2
  iintro ⟨H0, H1, H2⟩
  isplitl [HΦ]; · iexact HΦ
  isplitl [Ho]; · iexact Ho
  isplitl [H0]
  · iexists d0
    change _ ⊢ owns (c : Thread nD τ) (stage0_0 (cfg0.slots t 0)) fullShare (win0_0.fill (grid0.coords t) d0
      (win0_0.cut (grid0.coords t) (items m c t)))
    rw [show win0_0.cut (grid0.coords t) (items m c t) = iblk m c 0 t from win0_0.cut_fill _ _ _]
    try iexact H0
  isplitl [H1]
  · iexact H1
  · iexists k0_pay1 (F := Ideal) (win0_0.fill (grid0.coords t) d0 (iblk m c 0 t)) (iblk m c 1 t)
    change _ ⊢ owns (c : Thread nD τ) (stage0_2 (cfg0.slots t 2)) fullShare (win0_2.fill (grid0.coords t)
      (k0_pay1 (F := Ideal) (win0_0.fill (grid0.coords t) d0 (iblk m c 0 t)) (iblk m c 1 t))
      (win0_2.cut (α := Elt Ideal .f32) (grid0.coords t) (k0_pay1 (F := Ideal) (items m c t) (iblk m c 1 t))))
    rw [product_cut m c t d0, win0_2.fill_cut]
    try iexact H2

/-- The score blocks cover the item-major result, each holding the scores of its rows: it ends holding the scores. -/
theorem result_items (c : Dev nD) : (dats m 0 c).arrAt (2 : Fin 3) cfg0.N = scores m c :=
  (dats m 0 c).arrAt_eq_of_covers 2 (scores m c) (by decide +kernel) fun t _ y => product_block m c t (fun _ => Scalar.ofBits (F := Ideal) .f32 0#32) y

/-- What the host's transpose leaves in the result: the scores, one row a batch row. -/
abbrev result (c : Dev nD) : FVec Ideal S4096x100000 .f32 :=
  transpose S4096x100000 [1, 0] (scores m c) transposes_S100000x4096_S4096x100000_1_0

/-- The host line after the product reads the item-major scores and writes their transpose. -/
theorem tail_result (c : Dev nD) :
    Pipeline.afterTail₀ cfgs (dats m) 0 (V0 m) [hostOps1] c main_v0 = result m c := by
  have harr := Pipeline.withArrays_arr spec0 launch0.win.arr_inj c (V0 m c) (fun w => (dats m 0 c).arrAt w cfg0.N) 2
  change StableHlo.after hostOps1 (Pipeline.withArrays spec0 c (V0 m c) fun w => (dats m 0 c).arrAt w cfg0.N) (Proc.devRef .tc main_v0) = _
  after_results
  exact congrArg (fun x : FVec Ideal S100000x4096 .f32 => transpose S4096x100000 [1, 0] x transposes_S100000x4096_S4096x100000_1_0)
    (harr.trans (result_items m c))

/-- **The run**: the result holds the transposed scores, the arguments what they held, every counter zero. -/
theorem run_main : θ_run defs (onTc (τ := τ) (main (F := Ideal))) ⟨m, fun _ => 0, ρ⟩ (fun r => (∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  Pipeline.θ_run_frame_around cfgs (dats m) 0 launch0 defs₀ Variants.none m ρ main
    (hbody := fun c => body_obligation m c) (hshare := fun c => (dats m 0 c).share_full fun _ => rfl) (howed := fun _ _ => rfl)
    (V₀ := V0 m) (opss := [hostOps1]) (hsub := sfx_sub) (hfresh := sfx_fresh) (hkeep := sfx_keeps)
    (hmain := hmain m Variants.none) (hA := fun _ _ => rfl) (hΦ := fun _ _ => rfl) (Q' := _)
    (hQ' := fun r h => ⟨fun c => ⟨((h.1 c).2 main_v0 (by decide)).trans (tail_result m c),
      ((h.1 c).1 1).trans ((dats m 0 c).arrAt_in 1 rfl _), ((h.1 c).1 0).trans ((dats m 0 c).arrAt_in 0 rfl _)⟩, h.2⟩)

end Cert.KernelValue

end
-- ==== Proof.Scores.lean ====
/-
  The two programs' results over the exact numbers are one function of the arguments: the kernel's transposed item-major
  scores are the reference's product of the batch with the transposed table.
-/
module

public import proofs.«01_k».proof.Proof.IdealRun
public import proofs.«01_k».proof.Proof.Gen.ReferenceIdeal.Run
public import Idealize.ShloMosaic.Lib.StackMember
public import Idealize.ShloMosaic.Init

@[expose] public section

noncomputable section

namespace Cert.ScoresEq

open Idealize.ShloMosaic Idealize.ShloMosaic.TcCoe Idealize.ShloMosaic.ValueIdx Idealize.SL.Sem
open scoped BigOperators

/-- The reference's result as a function of the batch and the table. -/
abbrev refResult (x : FVec Ideal Cert.ReferenceIdeal.S4096x128 .f32) (table : FVec Ideal Cert.ReferenceIdeal.S100000x128 .f32) :
    FVec Ideal Cert.ReferenceIdeal.S4096x100000 .f32 :=
  Host.dotGeneral Cert.ReferenceIdeal.dot_S4096x128_S128x100000_S4096x100000_1_0_0_1_n_n none x
    (transpose Cert.ReferenceIdeal.S128x100000 [1, 0] table Cert.ReferenceIdeal.Facts₀.transposes_S100000x128_S128x100000_1_0)

/-- The reference at (row, item): the sum over the features of the batch row's feature times the item's. -/
theorem refResult_apply (x : FVec Ideal Cert.ReferenceIdeal.S4096x128 .f32)
    (table : FVec Ideal Cert.ReferenceIdeal.S100000x128 .f32) (b : Fin 4096) (i : Fin 100000) :
    refResult x table (ix2 b i) = ∑ k : Fin 128, x (ix2 b k) * table (ix2 i k) := by
  refine (StackMember.dotGeneral_plain_apply (m := 4096) (k := 128) (n := 100000) none x _ b i).trans ?_
  refine Finset.sum_congr rfl fun k _ => congrArg (x (ix2 b k) * ·) ?_
  exact transpose_apply _ table _ (ix2 k i) (ix2 i k) fun a => match a with
    | ⟨0, _⟩ => rfl
    | ⟨1, _⟩ => rfl

/-- **The results agree**: transposing the item-major scores gives the reference's product. -/
theorem transposed_scores (x : FVec Ideal Cert.ReferenceIdeal.S4096x128 .f32)
    (table : FVec Ideal Cert.ReferenceIdeal.S100000x128 .f32) :
    (transpose Cert.KernelIdeal.S4096x100000 [1, 0] (Cert.KernelValue.itemScores x table)
        Cert.KernelIdeal.Facts₀.transposes_S100000x4096_S4096x100000_1_0 : FVec Ideal Cert.KernelIdeal.S4096x100000 .f32)
      = refResult x table := by
  funext j
  obtain ⟨b, i, rfl⟩ : ∃ (b : Fin 4096) (i : Fin 100000), j = ix2 b i := ⟨j 0, j 1, eq_ix2 j⟩
  rw [refResult_apply]
  refine (transpose_apply _ _ _ (ix2 b i) (ix2 i b) fun a => match a with
    | ⟨0, _⟩ => rfl
    | ⟨1, _⟩ => rfl).trans ?_
  exact Finset.sum_congr rfl fun k _ => mul_comm _ _

/-- The kernel's frame over the exact numbers: its run, the result forgotten. -/
theorem frame_kernel : Cert.quiescent_KernelIdeal := fun m ρ _ =>
  (θ_run Cert.KernelIdeal.defs _ _).mono (fun _ h => ⟨fun c => (h.1 c).2, h.2⟩) (Cert.KernelValue.run_main m ρ)

/-- The reference's frame: its run, the result forgotten; it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- **The value claim**: from agreeing arguments both programs end with the same scores in their results. -/
theorem algebraic : Cert.algebraic_KernelIdeal_ReferenceIdeal := by
  intro m ρ m' ρ' _ hagree
  refine ⟨fun c => Cert.KernelValue.result m c, ?_, ?_⟩
  · exact (θ_run Cert.KernelIdeal.defs _ _).mono (fun _ h => h.1) (Cert.KernelValue.run_main m ρ)
  · refine (θ_run Cert.ReferenceIdeal.defs _ _).mono (fun _ h c => ⟨(h c).1.trans ?_, (h c).2⟩)
      (Cert.ReferenceIdeal.Value.run (F := Ideal) m' ρ')
    obtain ⟨hx, htable⟩ := hagree c
    rw [hx, htable]
    exact (transposed_scores _ _).symm

end Cert.ScoresEq

end
-- ==== Proof.lean ====
/-
  The proof of the certificate's claim: the three frames, the idealization (no operation replaced) and the equality of
  the kernel's result with the reference's over the exact numbers.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelFrame
public import proofs.«01_k».proof.Proof.Scores
public import Idealize.ShloMosaic.Adequacy
public import Idealize.ShloMosaic.Init

@[expose] public section

noncomputable section

namespace Cert.Proof

open Idealize.ShloMosaic Idealize.SL.Sem Cert.Kernel

/-- The whole claim: the three frames, the idealization and the value claim. -/
theorem claim : Cert.Claim := ⟨Cert.Kernel.Gen.facts, Cert.KernelIdeal.Gen.facts, Cert.ReferenceIdeal.Gen.facts,
  Cert.KernelFrame.frame, Cert.ScoresEq.frame_kernel, Cert.ScoresEq.frame_reference, trivial, Cert.ScoresEq.algebraic⟩

end Cert.Proof

end
